-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_output_layer_finite [hPre_output_layer_finite : Cert.Pre_output_layer_finite.Facts] (m : (ℓ : Loc Cert.KernelIdeal.nD Cert.KernelIdeal.τ Cert.KernelIdeal.sig) → Buf (Elt Ideal) ℓ) : Prop :=
  ∀ c : Dev Cert.KernelIdeal.nD,
    (Cert.Pre_output_layer_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_output_layer_finite [hPre_output_layer_finite : Cert.Pre_output_layer_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_output_layer_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_output_layer_finite [hKernelIdeal : Cert.KernelIdeal.Facts] [hPre_output_layer_finite : Cert.Pre_output_layer_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_output_layer_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_output_layer_finite [hReferenceIdeal : Cert.ReferenceIdeal.Facts] [hPre_output_layer_finite : Cert.Pre_output_layer_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_output_layer_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_output_layer_finite [hKernelIdeal : Cert.KernelIdeal.Facts] [hReferenceIdeal : Cert.ReferenceIdeal.Facts] [hPre_output_layer_finite : Cert.Pre_output_layer_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_output_layer_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_output_layer_finite : Cert.Pre_output_layer_finite.Facts),
    quiescent_Kernel (hKernel := hKernel)
    ∧ quiescent_KernelIdeal (hKernelIdeal := hKernelIdeal)
    ∧ quiescent_KernelIdeal_pre_output_layer_finite (hKernelIdeal := hKernelIdeal) (hPre_output_layer_finite := hPre_output_layer_finite)
    ∧ quiescent_ReferenceIdeal (hReferenceIdeal := hReferenceIdeal)
    ∧ quiescent_ReferenceIdeal_pre_output_layer_finite (hReferenceIdeal := hReferenceIdeal) (hPre_output_layer_finite := hPre_output_layer_finite)
    ∧ preserves_Kernel_KernelIdeal
    ∧ algebraic_KernelIdeal_ReferenceIdeal_pre_output_layer_finite (hKernelIdeal := hKernelIdeal) (hReferenceIdeal := hReferenceIdeal) (hPre_output_layer_finite := hPre_output_layer_finite)
-- ==== Pre_output_layer_finite.lean ====
abbrev S100000x128 : Shape := ⟨2, ![100000, 128]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S1x1 : Shape := ⟨2, ![1, 1]⟩

class Facts : Prop where
  bcast_S_S128x1 : S_.BroadcastsInDim S128x1 (![] : Fin 0 → Fin S128x1.rank)
  bcast_S_S1 : S_.BroadcastsInDim S1 (![] : Fin 0 → Fin S1.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)

variable [Facts]

def fn {F : FTy → Type} [FloatOps F] (main_arg0 : FVec F S100000x128 .f32) (main_arg1 : IVec S100000 32) (main_arg2 : FVec F S128x128 .f32) (main_arg3 : FVec F S128 .f32) (main_arg4 : FVec F S128x1 .f32) (main_arg5 : FVec F S1 .f32) : IVec S128x1 1 :=
  let main_v0 : FVec F S128x1 .f32 := Host.absf main_arg4
  let main_cst : FVec F S_ .f32 := constant S_ .f32 0x7F800000#32
  let main_v1 : FVec F S128x1 .f32 := broadcastInDim S128x1 ![] bcast_S_S128x1 main_cst
  let main_v2 : IVec S128x1 1 := cmpf .olt main_v0 main_v1
  let main_v3 : FVec F S1 .f32 := Host.absf main_arg5
  let main_cst_0 : FVec F S_ .f32 := constant S_ .f32 0x7F800000#32
  let main_v4 : FVec F S1 .f32 := broadcastInDim S1 ![] bcast_S_S1 main_cst_0
  let main_v5 : IVec S1 1 := cmpf .olt main_v3 main_v4
  let main_v6 : IVec S1x1 1 := broadcastInDim S1x1 ![1] bcast_S1_S1x1_1 main_v5
  let main_v7 : IVec S128x1 1 := broadcastInDim S128x1 ![0, 1] bcast_S1x1_S128x1_0_1 main_v6
  let main_v8 : IVec S128x1 1 := andi main_v2 main_v7
  main_v8
-- ==== Kernel.lean ====
abbrev S100000x128 : Shape := ⟨2, ![100000, 128]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S5x1x20000 : Shape := ⟨3, ![5, 1, 20000]⟩
abbrev S1x128 : Shape := ⟨2, ![1, 128]⟩
abbrev S64x128 : Shape := ⟨2, ![64, 128]⟩
abbrev S1x1x20000 : Shape := ⟨3, ![1, 1, 20000]⟩
abbrev S20000x128 : Shape := ⟨2, ![20000, 128]⟩
abbrev S20000 : Shape := ⟨1, ![20000]⟩
abbrev S1x20000 : Shape := ⟨2, ![1, 20000]⟩
abbrev S1x1 : Shape := ⟨2, ![1, 1]⟩
abbrev S64x20000 : Shape := ⟨2, ![64, 20000]⟩

abbrev nBuf : Space → Nat
  | .hbm => 10
  | .vmem => 8
  | .smem => 1
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S5x1x20000, .i32⟩
  | .hbm, ⟨7, _⟩ => ⟨S1x128, .f32⟩
  | .hbm, ⟨8, _⟩ => ⟨S1x128, .f32⟩
  | .hbm, ⟨9, _⟩ => ⟨S64x128, .f32⟩
  | .local _ .vmem, ⟨0, _⟩ => ⟨S1x1x20000, .i32⟩
  | .local _ .vmem, ⟨1, _⟩ => ⟨S1x1x20000, .i32⟩
  | .local _ .vmem, ⟨2, _⟩ => ⟨S20000x128, .f32⟩
  | .local _ .vmem, ⟨3, _⟩ => ⟨S20000x128, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S64x128, .f32⟩
  | .local _ .smem, ⟨0, _⟩ => ⟨S1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x20000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S100000x128 : Shape := ⟨2, ![100000, 128]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x128 : Shape := ⟨2, ![1, 128]⟩
abbrev S100000x1 : Shape := ⟨2, ![100000, 1]⟩
abbrev S1x1 : Shape := ⟨2, ![1, 1]⟩
abbrev S_ : Shape := ⟨0, ![]⟩
abbrev S64x128 : Shape := ⟨2, ![64, 128]⟩

abbrev nBuf : Space → Nat
  | .hbm => 35
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S100000x128, .f32⟩
  | .hbm, ⟨7, _⟩ => ⟨S1x128, .f32⟩
  | .hbm, ⟨8, _⟩ => ⟨S100000x128, .f32⟩
  | .hbm, ⟨9, _⟩ => ⟨S100000x128, .f32⟩
  | .hbm, ⟨10, _⟩ => ⟨S100000x128, .f32⟩
  | .hbm, ⟨11, _⟩ => ⟨S100000x1, .f32⟩
  | .hbm, ⟨12, _⟩ => ⟨S1x1, .f32⟩
  | .hbm, ⟨13, _⟩ => ⟨S100000x1, .f32⟩
  | .hbm, ⟨14, _⟩ => ⟨S100000x1, .f32⟩
  | .hbm, ⟨15, _⟩ => ⟨S_, .f32⟩
  | .hbm, ⟨16, _⟩ => ⟨S1, .f32⟩
  | .hbm, ⟨17, _⟩ => ⟨S_, .f32⟩
  | .hbm, ⟨18, _⟩ => ⟨S1, .f32⟩
  | .hbm, ⟨19, _⟩ => ⟨S1, .f32⟩
  | .hbm, ⟨20, _⟩ => ⟨S1x1, .f32⟩
  | .hbm, ⟨21, _⟩ => ⟨S100000x1, .f32⟩
  | .hbm, ⟨22, _⟩ => ⟨S100000x1, .f32⟩
  | .hbm, ⟨23, _⟩ => ⟨S100000x1, .f32⟩
  | .hbm, ⟨24, _⟩ => ⟨S_, .f32⟩
  | .hbm, ⟨25, _⟩ => ⟨S1, .f32⟩
  | .hbm, ⟨26, _⟩ => ⟨S1x1, .f32⟩
  | .hbm, ⟨27, _⟩ => ⟨S100000x1, .f32⟩
  | .hbm, ⟨28, _⟩ => ⟨S100000x1, .f32⟩
  | .hbm, ⟨29, _⟩ => ⟨S100000x128, .f32⟩
  | .hbm, ⟨30, _⟩ => ⟨S100000x128, .f32⟩
  | .hbm, ⟨31, _⟩ => ⟨S_, .f32⟩
  | .hbm, ⟨32, _⟩ => ⟨S64x128, .f32⟩
  | .hbm, ⟨33, _⟩ => ⟨S100000x1, .i32⟩
  | .hbm, ⟨34, _⟩ => ⟨S64x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Proof.Cases.lean ====
/-
  What one grid point of the pooling kernel leaves behind, case by case, as expressions over what the point is given.

  The body has three cases: the first point (both running values are cleared before use), the middle points, and the last
  point (the block is divided by the running denominator at the end). In each of them the output block and the
  one-element scratch are written whole, so what a point leaves there is the payload of its last store, whose loads
  read whole buffers.
-/
module

public import proofs.«01_k».proof.Proof.Gen.KernelIdeal.Value
public import Idealize.ShloMosaic.Lib.Tactic

@[expose] public section

set_option maxRecDepth 16384

noncomputable section

namespace Cert.KernelIdeal.Pooling

open Cert.KernelIdeal Cert.KernelIdeal.Gen Idealize.ShloMosaic Idealize.ShloMosaic.TcCoe Idealize.SL.Sem

variable {F : FTy → Type} [FloatOps F]

/-- The zero offset of an array of one axis. -/
theorem zero1 : (![0] : Fin 1 → Nat) = fun _ => 0 := by decide
/-- The zero offset of an array of two axes. -/
theorem zero2 : (![0, 0] : Fin 2 → Nat) = fun _ => 0 := by decide
/-- The zero offset of an array of three axes. -/
theorem zero3 : (![0, 0, 0] : Fin 3 → Nat) = fun _ => 0 := by decide

/-- The one index of the scratch. -/
abbrev at0 : S1.Idx := fun a => match a with | ⟨0, _⟩ => (0 : Fin 1)

/-- A one-element scratch has one index. -/
theorem idx_at0 (i : S1.Idx) : i = at0 := by
  funext a
  match a with
  | ⟨0, _⟩ => exact Subsingleton.elim (α := Fin 1) _ _

section
variable (c : Dev nD) (i : grid0.Coords)
  (a1 : Memref sig .tc .vmem S1x1x20000 .i32) (h1 : a1.IsWhole) (a2 : Memref sig .tc .vmem S20000x128 .f32) (h2 : a2.IsWhole)
  (a3 : Memref sig .tc .vmem S128x128 .f32) (h3 : a3.IsWhole) (a4 : Memref sig .tc .vmem S1x128 .f32) (h4 : a4.IsWhole)
  (a5 : Memref sig .tc .vmem S1x128 .f32) (h5 : a5.IsWhole) (a6 : Memref sig .tc .vmem S64x128 .f32) (h6 : a6.IsWhole)
  (a7 : Memref sig .tc .smem S1 .f32) (h7 : a7.IsWhole)
  (ids : Vec F S1x1x20000 .i32) (x : Vec F S20000x128 .f32) (w : Vec F S128x128 .f32) (b : Vec F S1x128 .f32)
  (v : Vec F S1x128 .f32) (acc : Vec F S64x128 .f32) (z : Vec F S1 .f32)

/-- A middle point adds its rows' weighted sums to the block. -/
theorem out_B (hc0 : ¬cond0_0 i) (hc1 : ¬cond0_1 i) :
    out0_B_5 c i a1 h1 a2 h2 a3 h3 a4 h4 a5 h5 a6 h6 a7 h7 hc0 hc1 ids x w b v acc z
      = k0_pay1 x (k0_pay6 x w b v ids) acc := by
  unfold out0_B_5
  rw [View.read_writes_eq_canon _ _ _ (cover0_B_5 c i a1 h1 a2 h2 a3 h3 a4 h4 a5 h5 a6 h6 a7 h7 hc0 hc1 ids x w b v acc z)]
  unfold kernelRun0_B
  dsimp only
  sl_unfold_words
  rw [View.canon_unit_zero zero2]
  simp only [View.readAt_eq_ld, h1.read_unread, h2.read_unread, h3.read_unread, h4.read_unread, h5.read_unread,
    h6.read_unread, View.ld_unit_zero (S := S64x128) zero2, View.ld_unit_zero (S := S20000x128) zero2,
    View.ld_unit_zero (S := S128x128) zero2, View.ld_unit_zero (S := S1x128) zero2,
    View.ld_unit_zero (S := S1x1x20000) zero3]

/-- A middle point adds its rows' exponentials to the running denominator. -/
theorem scr_B (hc0 : ¬cond0_0 i) (hc1 : ¬cond0_1 i) :
    sout0_B_0 c i a1 h1 a2 h2 a3 h3 a4 h4 a5 h5 a6 h6 a7 h7 hc0 hc1 ids x w b v acc z
      = fun _ => k0_pay5 x w b v (z at0) := by
  unfold sout0_B_0
  rw [View.read_writes_eq_canon _ _ _ (scover0_B_0 c i a1 h1 a2 h2 a3 h3 a4 h4 a5 h5 a6 h6 a7 h7 hc0 hc1 ids x w b v acc z)]
  unfold kernelRun0_B
  dsimp only
  sl_unfold_words
  rw [View.canon_unit_zero zero1]
  simp only [View.readAt_eq_ld, h2.read_unread, h3.read_unread, h4.read_unread, h5.read_unread, h7.read_unread,
    View.ld_unit_zero (S := S20000x128) zero2, View.ld_unit_zero (S := S128x128) zero2,
    View.ld_unit_zero (S := S1x128) zero2, View.ld_unit_zero (S := S1) zero1]
  rw [idx_at0 (Shape.Idx.first _)]
  exact funext fun _ => congrArg (k0_pay5 x w b v) (congrFun (View.ld_unit_zero (S := S1) zero1 inb_S1_S1_0 z) at0)

/-- The first point clears the block, then adds its rows' weighted sums. -/
theorem out_A (hc0 : cond0_0 i) (hc1 : ¬cond0_1 i) :
    out0_A_5 c i a1 h1 a2 h2 a3 h3 a4 h4 a5 h5 a6 h6 a7 h7 hc0 hc1 ids x w b v
      = k0_pay1 x (k0_pay6 x w b v ids) (k0_pay3 (F := F)) := by
  unfold out0_A_5
  rw [View.read_writes_eq_canon _ _ _ (cover0_A_5 c i a1 h1 a2 h2 a3 h3 a4 h4 a5 h5 a6 h6 a7 h7 hc0 hc1 ids x w b v)]
  unfold kernelRun0_A
  dsimp only
  sl_unfold_words
  rw [View.canon_cons_unit_zero (S := S64x128) zero2, View.readCov_unit_zero (S := S64x128) _ zero2]
  simp only [View.readAt_eq_ld, h1.read_unread, h2.read_unread, h3.read_unread, h4.read_unread, h5.read_unread,
    View.ld_unit_zero (S := S20000x128) zero2,
    View.ld_unit_zero (S := S128x128) zero2, View.ld_unit_zero (S := S1x128) zero2,
    View.ld_unit_zero (S := S1x1x20000) zero3]

/-- The first point clears the running denominator, then adds its rows' exponentials. -/
theorem scr_A (hc0 : cond0_0 i) (hc1 : ¬cond0_1 i) :
    sout0_A_0 c i a1 h1 a2 h2 a3 h3 a4 h4 a5 h5 a6 h6 a7 h7 hc0 hc1 ids x w b v
      = fun _ => k0_pay5 x w b v (Scalar.ofBits .f32 0x00000000#32) := by
  unfold sout0_A_0
  rw [View.read_writes_eq_canon _ _ _ (scover0_A_0 c i a1 h1 a2 h2 a3 h3 a4 h4 a5 h5 a6 h6 a7 h7 hc0 hc1 ids x w b v)]
  unfold kernelRun0_A
  dsimp only
  sl_unfold_words
  rw [View.canon_cons_unit_zero (S := S1) zero1]
  simp only [View.readAt_eq_ld, h2.read_unread, h3.read_unread, h4.read_unread, h5.read_unread,
    View.ld_unit_zero (S := S20000x128) zero2, View.ld_unit_zero (S := S128x128) zero2,
    View.ld_unit_zero (S := S1x128) zero2]
  rfl

/-- The last point adds its rows' weighted sums and divides the block by the finished denominator. -/
theorem out_C (hc0 : ¬cond0_0 i) (hc1 : cond0_1 i) :
    out0_C_5 c i a1 h1 a2 h2 a3 h3 a4 h4 a5 h5 a6 h6 a7 h7 hc0 hc1 ids x w b v acc z
      = k0_pay2 (k0_pay1 x (k0_pay6 x w b v ids) acc) (k0_pay5 x w b v (z at0)) := by
  unfold out0_C_5
  rw [View.read_writes_eq_canon _ _ _ (cover0_C_5 c i a1 h1 a2 h2 a3 h3 a4 h4 a5 h5 a6 h6 a7 h7 hc0 hc1 ids x w b v acc z)]
  unfold kernelRun0_C
  dsimp only
  sl_unfold_words
  rw [View.canon_cons_unit_zero (S := S64x128) zero2, View.readCov_unit_zero (S := S64x128) _ zero2]
  simp only [View.readAt_eq_ld, h1.read_unread, h2.read_unread, h3.read_unread, h4.read_unread, h5.read_unread,
    h6.read_unread, h7.read_unread, View.ld_unit_zero (S := S64x128) zero2,
    View.ld_unit_zero (S := S20000x128) zero2, View.ld_unit_zero (S := S128x128) zero2,
    View.ld_unit_zero (S := S1x128) zero2, View.ld_unit_zero (S := S1x1x20000) zero3, View.ld_unit_zero (S := S1) zero1]
  rw [idx_at0 (Shape.Idx.first _)]
  exact congrArg (fun t => k0_pay2 (k0_pay1 x (k0_pay6 x w b v ids) acc) (k0_pay5 x w b v t))
    (congrFun (View.ld_unit_zero (S := S1) zero1 inb_S1_S1_0 z) at0)

end

end Cert.KernelIdeal.Pooling

end
-- ==== Proof.Payloads.lean ====
/-
  The payloads of the pooling kernel read at an index, over the extended reals.
-/
module

public import proofs.«01_k».proof.Proof.Gen.KernelIdeal.Skeleton
public import Idealize.ShloMosaic.Lib.Pointwise

@[expose] public section

set_option maxRecDepth 16384

noncomputable section

namespace Cert.KernelIdeal.Pooling

open Cert.KernelIdeal Cert.KernelIdeal.Gen Idealize.ShloMosaic

/-- The exponential of a row's score. -/
theorem pay4_apply (x : Vec Ideal S20000x128 .f32) (w : Vec Ideal S128x128 .f32) (b v : Vec Ideal S1x128 .f32)
    (r : Fin 20000) :
    k0_pay4 (F := Ideal) x w b v (ix1 r)
      = Ideal.exp (∑ h : Fin 128, Ideal.tanh ((∑ k : Fin 128, x (ix2 r k) * w (ix2 k h)) + b (ix2 0 h)) * v (ix2 0 h)) := by
  pointwise [k0_pay4]

/-- The running denominator gains the sum of the block's exponentials. -/
theorem pay5_apply (x : Vec Ideal S20000x128 .f32) (w : Vec Ideal S128x128 .f32) (b v : Vec Ideal S1x128 .f32)
    (z : EReal) :
    k0_pay5 (F := Ideal) x w b v z = z + ∑ r : Fin 20000, k0_pay4 (F := Ideal) x w b v (ix1 r) := by
  unfold k0_pay5
  generalize k0_pay4 (F := Ideal) x w b v = e
  pointwise

/-- Row `g` of the mask holds the exponential of the rows whose segment is `g`, and zero elsewhere. -/
theorem pay6_apply (x : Vec Ideal S20000x128 .f32) (w : Vec Ideal S128x128 .f32) (b v : Vec Ideal S1x128 .f32)
    (ids : Vec Ideal S1x1x20000 .i32) (g : Fin 64) (r : Fin 20000) :
    k0_pay6 (F := Ideal) x w b v ids (ix2 g r)
      = if ids (ix3 0 0 r) = BitVec.ofNat 32 g.val then k0_pay4 (F := Ideal) x w b v (ix1 r) else 0 := by
  unfold k0_pay6
  generalize k0_pay4 (F := Ideal) x w b v = e
  pointwise
  unfold Scalar.select IntOp.cmpi
  by_cases h : ids (ix3 0 0 r) = BitVec.ofNat 32 g.val
  · rw [if_pos h, if_pos (by rw [h]; simp)]
  · rw [if_neg h]
    show (if BitVec.ofBool (ids (ix3 0 0 r) == BitVec.ofNat 32 g.val) = 1 then e (ix1 r) else 0) = 0
    rw [beq_false_of_ne h]
    rfl

/-- The running block gains the mask times the rows. -/
theorem pay1_apply (x : Vec Ideal S20000x128 .f32) (mk : FVec Ideal S64x20000 .f32) (acc : Vec Ideal S64x128 .f32)
    (g : Fin 64) (d : Fin 128) :
    k0_pay1 (F := Ideal) x mk acc (ix2 g d) = acc (ix2 g d) + ∑ r : Fin 20000, mk (ix2 g r) * x (ix2 r d) := by
  pointwise [k0_pay1]

/-- The last division. -/
theorem pay2_apply (acc : Vec Ideal S64x128 .f32) (z : EReal) (g : Fin 64) (d : Fin 128) :
    k0_pay2 (F := Ideal) acc z (ix2 g d) = Ideal.div (acc (ix2 g d)) z := by
  pointwise [k0_pay2]

/-- The cleared block is zero. -/
theorem pay3_apply (g : Fin 64) (d : Fin 128) : k0_pay3 (F := Ideal) (ix2 g d) = 0 := by
  pointwise [k0_pay3]

end Cert.KernelIdeal.Pooling

end
-- ==== Proof.Blocks.lean ====
/-
  What each input block of the pooling kernel holds, element by element, in terms of the program's arguments.

  Point `t` is given rows `20000 t … 20000 t + 19999` of the rows and of the segment numbers, and the whole of the
  weights. The segment numbers, the bias and the output weights reach the kernel through a reshape.
-/
module

public import proofs.«01_k».proof.Proof.Gen.KernelIdeal.Frame
public import Idealize.ShloMosaic.Lib.Pointwise
public import Idealize.ShloMosaic.Lib.StableHlo.Run

@[expose] public section

set_option maxRecDepth 16384

noncomputable section

namespace Cert.KernelIdeal.Pooling

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (c : Dev nD)

/-- Row `r` of block `t` among all rows. (The remainder makes it a row for every `t`; the grid has five points.) -/
def node (t : ℕ) (r : Fin 20000) : Fin 100000 :=
  ⟨20000 * (t % 5) + r.val, by have := r.isLt; have := Nat.mod_lt t (show 0 < 5 by decide); omega⟩

/-! ## The reshaped arguments -/

/-- The segment numbers the kernel is launched on. -/
theorem V_ids : V m c main_v0 = shapeCast S5x1x20000 (m ((c : Thread nD τ).loc main_arg1)) shapeCasts_S100000_S5x1x20000 := by
  show StableHlo.after hostOps0 _ (Proc.devRef .tc main_v0) = _
  after_results
  rfl

/-- The hidden bias the kernel is launched on. -/
theorem V_bias : V m c main_v1 = shapeCast S1x128 (m ((c : Thread nD τ).loc main_arg3)) shapeCasts_S128_S1x128 := by
  show StableHlo.after hostOps0 _ (Proc.devRef .tc main_v1) = _
  after_results
  rfl

/-- The output weights the kernel is launched on. -/
theorem V_outw : V m c main_v2 = shapeCast S1x128 (m ((c : Thread nD τ).loc main_arg4)) shapeCasts_S128x1_S1x128 := by
  show StableHlo.after hostOps0 _ (Proc.devRef .tc main_v2) = _
  after_results
  rfl

/-! ## The printed index maps over the grid -/

/-- Where each point reads the segment numbers: block `t`. -/
theorem map0 : ∀ t : Fin cfg0.N, win0_0.index t (0 : Fin 3) = t.val % 5 ∧ win0_0.index t (1 : Fin 3) = 0
    ∧ win0_0.index t (2 : Fin 3) = 0 := (by decide +kernel : ∀ t : Fin grid0.N, _)
/-- Where each point reads the rows: block `t`. -/
theorem map1 : ∀ t : Fin cfg0.N, win0_1.index t (0 : Fin 2) = t.val % 5 ∧ win0_1.index t (1 : Fin 2) = 0 :=
  (by decide +kernel : ∀ t : Fin grid0.N, _)
/-- Every point reads the whole hidden weights. -/
theorem map2 : ∀ t : Fin cfg0.N, win0_2.index t (0 : Fin 2) = 0 ∧ win0_2.index t (1 : Fin 2) = 0 :=
  (by decide +kernel : ∀ t : Fin grid0.N, _)
/-- Every point reads the whole hidden bias. -/
theorem map3 : ∀ t : Fin cfg0.N, win0_3.index t (0 : Fin 2) = 0 ∧ win0_3.index t (1 : Fin 2) = 0 :=
  (by decide +kernel : ∀ t : Fin grid0.N, _)
/-- Every point reads the whole output weights. -/
theorem map4 : ∀ t : Fin cfg0.N, win0_4.index t (0 : Fin 2) = 0 ∧ win0_4.index t (1 : Fin 2) = 0 :=
  (by decide +kernel : ∀ t : Fin grid0.N, _)

/-! ## The blocks -/

/-- The segment numbers cut into five blocks: number `r` of block `q` is number `20000 q + r`. -/
theorem cut_ids (ids : Vec F S100000 .i32) (q : Fin 5) (r : Fin 20000) (i : Fin 100000)
    (hi : i.val = 20000 * q.val + r.val) :
    shapeCast S5x1x20000 ids shapeCasts_S100000_S5x1x20000 (ix3 q 0 r) = ids (ix1 i) := by
  refine shapeCast_apply ids _ _ _ ?_
  rw [Shape.rowMajor_val_one, Shape.rowMajor_val_three]
  show i.val = (q.val * 1 + 0) * 20000 + r.val
  omega

/-- The block of the segment numbers. -/
theorem blk_ids (t : Fin cfg0.N) (r : Fin 20000) :
    (iblk m c 0 t : Vec F S1x1x20000 .i32) (ix3 0 0 r) = m ((c : Thread nD τ).loc main_arg1) (ix1 (node t.val r)) := by
  obtain ⟨e0, e1, e2⟩ := map0 t
  have ht : t.val % 5 < 5 := Nat.mod_lt _ (by decide)
  have hr := r.isLt
  have e : (iblk m c 0 t : Vec F S1x1x20000 .i32) (ix3 0 0 r)
      = V m c main_v0 (ix3 (⟨t.val % 5, ht⟩ : Fin 5) (0 : Fin 1) r) := by
    unfold iblk
    rw [View.read_apply]
    refine congrArg (V m c main_v0) (funext fun a => Fin.ext ?_)
    match a with
    | ⟨0, _⟩ => show win0_0.index t (0 : Fin 3) * 1 + 1 * 0 = t.val % 5; omega
    | ⟨1, _⟩ => show win0_0.index t (1 : Fin 3) * 1 + 1 * 0 = 0; omega
    | ⟨2, _⟩ => show win0_0.index t (2 : Fin 3) * 20000 + 1 * r.val = r.val; omega
  rw [e, V_ids]
  generalize m ((c : Thread nD τ).loc main_arg1) = ids
  exact cut_ids ids ⟨t.val % 5, ht⟩ r (node t.val r) rfl

/-- The block of the rows. -/
theorem blk_rows (t : Fin cfg0.N) (r : Fin 20000) (k : Fin 128) :
    (iblk m c 1 t : Vec F S20000x128 .f32) (ix2 r k) = m ((c : Thread nD τ).loc main_arg0) (ix2 (node t.val r) k) := by
  obtain ⟨e0, e1⟩ := map1 t
  have e : (iblk m c 1 t : Vec F S20000x128 .f32) (ix2 r k) = V m c main_arg0 (ix2 (node t.val r) k) := by
    unfold iblk
    rw [View.read_apply]
    refine congrArg (V m c main_arg0) (funext fun a => Fin.ext ?_)
    match a with
    | ⟨0, _⟩ => show win0_1.index t (0 : Fin 2) * 20000 + 1 * r.val = 20000 * (t.val % 5) + r.val; omega
    | ⟨1, _⟩ => show win0_1.index t (1 : Fin 2) * 128 + 1 * k.val = k.val; omega
  rw [e, V_main_arg0]

/-- The first layer's weights, whole. -/
theorem blk_w (t : Fin cfg0.N) (k h : Fin 128) :
    (iblk m c 2 t : Vec F S128x128 .f32) (ix2 k h) = m ((c : Thread nD τ).loc main_arg2) (ix2 k h) := by
  obtain ⟨e0, e1⟩ := map2 t
  have e : (iblk m c 2 t : Vec F S128x128 .f32) (ix2 k h) = V m c main_arg2 (ix2 k h) := by
    unfold iblk
    rw [View.read_apply]
    refine congrArg (V m c main_arg2) (funext fun a => Fin.ext ?_)
    match a with
    | ⟨0, _⟩ => show win0_2.index t (0 : Fin 2) * 128 + 1 * k.val = k.val; omega
    | ⟨1, _⟩ => show win0_2.index t (1 : Fin 2) * 128 + 1 * h.val = h.val; omega
  rw [e, V_main_arg2]

/-- The first layer's bias, as a row. -/
theorem blk_bias (t : Fin cfg0.N) (h : Fin 128) :
    (iblk m c 3 t : Vec F S1x128 .f32) (ix2 0 h) = m ((c : Thread nD τ).loc main_arg3) (ix1 h) := by
  obtain ⟨e0, e1⟩ := map3 t
  have e : (iblk m c 3 t : Vec F S1x128 .f32) (ix2 0 h) = V m c main_v1 (ix2 (0 : Fin 1) h) := by
    unfold iblk
    rw [View.read_apply]
    refine congrArg (V m c main_v1) (funext fun a => Fin.ext ?_)
    match a with
    | ⟨0, _⟩ => show win0_3.index t (0 : Fin 2) * 1 + 1 * 0 = 0; omega
    | ⟨1, _⟩ => show win0_3.index t (1 : Fin 2) * 128 + 1 * h.val = h.val; omega
  rw [e, V_bias]
  generalize m ((c : Thread nD τ).loc main_arg3) = b
  pointwise

/-- The output layer's weights, as a row. -/
theorem blk_outw (t : Fin cfg0.N) (h : Fin 128) :
    (iblk m c 4 t : Vec F S1x128 .f32) (ix2 0 h) = m ((c : Thread nD τ).loc main_arg4) (ix2 h 0) := by
  obtain ⟨e0, e1⟩ := map4 t
  have e : (iblk m c 4 t : Vec F S1x128 .f32) (ix2 0 h) = V m c main_v2 (ix2 (0 : Fin 1) h) := by
    unfold iblk
    rw [View.read_apply]
    refine congrArg (V m c main_v2) (funext fun a => Fin.ext ?_)
    match a with
    | ⟨0, _⟩ => show win0_4.index t (0 : Fin 2) * 1 + 1 * 0 = 0; omega
    | ⟨1, _⟩ => show win0_4.index t (1 : Fin 2) * 128 + 1 * h.val = h.val; omega
  rw [e, V_outw]
  generalize m ((c : Thread nD τ).loc main_arg4) = v
  pointwise

end Cert.KernelIdeal.Pooling

end
-- ==== Proof.Softmax.lean ====
/-
  The mathematics of the pooling, over the extended reals.

  A softmax does not change when one real number is added to every score, so the kernel may leave out both the output
  bias and the subtraction of the largest score; and dividing a weighted sum by the denominator once, at the end, is
  dividing every weight by it, since the reciprocal of the denominator is a non-negative real. The rows themselves may
  hold infinities: multiplying by a non-negative real distributes over any sum of extended reals.
-/
module

public import Idealize.ShloMosaic.PureOps.Ideal

@[expose] public section

noncomputable section

namespace Cert.Pooling

open Idealize.ShloMosaic

/-- The score of one row: a hidden layer of hyperbolic tangents, then the output weights. -/
def score {K H : ℕ} (row : Fin K → EReal) (w : Fin K → Fin H → EReal) (b v : Fin H → EReal) : EReal :=
  ∑ h : Fin H, Ideal.tanh ((∑ k : Fin K, row k * w k h) + b h) * v h

/-- A hyperbolic tangent is a real number, at the infinities too. -/
theorem tanh_real (x : EReal) : ∃ r : ℝ, Ideal.tanh x = (r : EReal) := by
  induction x with
  | bot => exact ⟨-1, rfl⟩
  | top => exact ⟨1, rfl⟩
  | coe r => exact ⟨Real.tanh r, rfl⟩

/-- A finite sum of real numbers is a real number. -/
theorem sum_real {ι : Type*} (s : Finset ι) (f : ι → EReal) (hf : ∀ i, ∃ r : ℝ, f i = (r : EReal)) :
    ∃ r : ℝ, ∑ i ∈ s, f i = (r : EReal) := by
  classical
  choose g hg using hf
  refine ⟨∑ i ∈ s, g i, ?_⟩
  induction s using Finset.induction_on with
  | empty => simp
  | insert a s ha ih => rw [Finset.sum_insert ha, Finset.sum_insert ha, ih, hg, EReal.coe_add]

/-- With finite output weights every score is a real number, whatever the rows and the first layer hold. -/
theorem score_real {K H : ℕ} (row : Fin K → EReal) (w : Fin K → Fin H → EReal) (b v : Fin H → EReal)
    (hv : ∀ h, ∃ r : ℝ, v h = (r : EReal)) : ∃ r : ℝ, score row w b v = (r : EReal) := by
  refine sum_real _ _ fun h => ?_
  obtain ⟨p, hp⟩ := tanh_real ((∑ k : Fin K, row k * w k h) + b h)
  obtain ⟨q, hq⟩ := hv h
  exact ⟨p * q, by rw [hp, hq, EReal.coe_mul]⟩

/-- The largest of finitely many reals, started from minus infinity, is a real number when there is at least one. -/
theorem fold_max_real {ι : Type*} (s : Finset ι) (hs : s.Nonempty) (f : ι → EReal)
    (hf : ∀ i, ∃ r : ℝ, f i = (r : EReal)) : ∃ r : ℝ, s.fold max ⊥ f = (r : EReal) := by
  classical
  induction hs using Finset.Nonempty.cons_induction with
  | singleton a =>
    obtain ⟨r, hr⟩ := hf a
    exact ⟨r, by rw [Finset.fold_singleton, hr]; exact max_eq_left bot_le⟩
  | cons a s ha hs ih =>
    obtain ⟨r, hr⟩ := hf a
    obtain ⟨q, hq⟩ := ih
    exact ⟨max r q, by rw [Finset.fold_cons, hr, hq]; exact (EReal.coe_strictMono.monotone.map_max (a := r) (b := q)).symm⟩

/-- Multiplying by a non-negative real distributes over a finite sum of extended reals. -/
theorem sum_mul_real {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- A sum of reals, taken among the extended reals. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The softmax weight of a row does not change when a real number is added to every score. -/
theorem weight_shift {ι : Type*} [Fintype ι] [Nonempty ι] (s : ι → ℝ) (a : ℝ) (i : ι) :
    Real.exp (s i + a) * (1 / ∑ j, Real.exp (s j + a)) = Real.exp (s i) * (1 / ∑ j, Real.exp (s j)) := by
  have hZ : 0 < ∑ j, Real.exp (s j) := Finset.sum_pos (fun j _ => Real.exp_pos _) Finset.univ_nonempty
  have ha := Real.exp_pos a
  have hs : ∑ j, Real.exp (s j + a) = (∑ j, Real.exp (s j)) * Real.exp a := by
    rw [Finset.sum_mul]
    exact Finset.sum_congr rfl fun j _ => Real.exp_add _ _
  rw [hs, Real.exp_add]
  field_simp

/-- The kernel's pooling of the rows of one segment, divided at the end by the sum of the exponentials, is the
    reference's: the sum over the segment of each row times its softmax weight, the scores carrying a real bias `b` and
    shifted by a real number `M`. -/
theorem pooled_eq {ι : Type*} [Fintype ι] [Nonempty ι] (s : ι → EReal) (hs : ∀ i, ∃ r : ℝ, s i = (r : EReal))
    (b M : EReal) (hb : ∃ r : ℝ, b = (r : EReal)) (hM : ∃ r : ℝ, M = (r : EReal)) (P Q : ι → Prop)
    [DecidablePred P] [DecidablePred Q] (hPQ : ∀ i, P i ↔ Q i) (x : ι → EReal) :
    Ideal.div (∑ i, (if P i then Ideal.exp (s i) else 0) * x i) (∑ i, Ideal.exp (s i))
      = ∑ i, if Q i then x i * Ideal.div (Ideal.exp (s i + b - M)) (∑ j, Ideal.exp (s j + b - M)) else 0 := by
  choose p hp using hs
  obtain ⟨b, rfl⟩ := hb
  obtain ⟨M, rfl⟩ := hM
  have e1 : ∀ i, Ideal.exp (s i) = ((Real.exp (p i) : ℝ) : EReal) := fun i => by rw [hp]; rfl
  have e2 : ∀ i, Ideal.exp (s i + (b : EReal) - (M : EReal)) = ((Real.exp (p i + (b - M)) : ℝ) : EReal) := fun i => by
    rw [hp, ← EReal.coe_add, ← EReal.coe_sub, add_sub_assoc]; rfl
  have h1 : 0 < ∑ j, Real.exp (p j) := Finset.sum_pos (fun j _ => Real.exp_pos _) Finset.univ_nonempty
  have h2 : 0 < ∑ j, Real.exp (p j + (b - M)) := Finset.sum_pos (fun j _ => Real.exp_pos _) Finset.univ_nonempty
  simp only [e1, e2, coe_sum]
  rw [Ideal.div_coe h1.ne', sum_mul_real _ _ _ (one_div_nonneg.mpr h1.le)]
  refine Finset.sum_congr rfl fun i _ => ?_
  by_cases h : P i
  · rw [if_pos h, if_pos ((hPQ i).mp h), Ideal.div_coe h2.ne', ← EReal.coe_mul, weight_shift p (b - M) i, EReal.coe_mul,
      mul_comm (x i), mul_right_comm]
  · rw [if_neg h, if_neg (fun q => h ((hPQ i).mpr q)), zero_mul, zero_mul]

end Cert.Pooling

end
-- ==== Proof.Fold.lean ====
/-
  The array the pooling kernel leaves, over the extended reals.

  After point `n` the output block holds, at row `g` and column `d`, the sum over the rows of the blocks so far of the
  exponential of the row's score times the row's column `d`, over the rows of segment `g`; the scratch holds the sum of
  the exponentials. The last point divides the one by the other. The five blocks together are all the rows.
-/
module

public import proofs.«01_k».proof.Proof.Cases
public import proofs.«01_k».proof.Proof.Payloads
public import proofs.«01_k».proof.Proof.Blocks
public import proofs.«01_k».proof.Proof.Softmax

@[expose] public section

set_option maxRecDepth 16384

noncomputable section

namespace Cert.KernelIdeal.Pooling

open Cert.KernelIdeal Cert.KernelIdeal.Gen Cert.KernelIdeal.Value Idealize.ShloMosaic Idealize.ShloMosaic.TcCoe Idealize.SL.Sem
open Cert.Pooling (score)

variable (m : (ℓ : Loc nD τ sig) → Buf (Elt Ideal) ℓ) (c : Dev nD)

/-- Row `i` of the rows. -/
def row (i : Fin 100000) (k : Fin 128) : EReal := (m ((c : Thread nD τ).loc main_arg0) : Vec Ideal S100000x128 .f32) (ix2 i k)
/-- The segment number of row `i`. -/
def seg (i : Fin 100000) : BitVec 32 := (m ((c : Thread nD τ).loc main_arg1) : Vec Ideal S100000 .i32) (ix1 i)
/-- The score of row `i`, without the output bias. -/
def sc (i : Fin 100000) : EReal :=
  score (row m c i) (fun k h => (m ((c : Thread nD τ).loc main_arg2) : Vec Ideal S128x128 .f32) (ix2 k h))
    (fun h => (m ((c : Thread nD τ).loc main_arg3) : Vec Ideal S128 .f32) (ix1 h))
    (fun h => (m ((c : Thread nD τ).loc main_arg4) : Vec Ideal S128x1 .f32) (ix2 h 0))

/-- What row `i` adds to row `g`, column `d`, of the output block. -/
def term (g : Fin 64) (d : Fin 128) (i : Fin 100000) : EReal :=
  (if seg m c i = BitVec.ofNat 32 g.val then Ideal.exp (sc m c i) else 0) * row m c i d

/-! ## One point -/

/-- The exponentials of block `t`'s scores. -/
theorem exp_block (t : Fin cfg0.N) (r : Fin 20000) :
    k0_pay4 (F := Ideal) (iblk m c 1 t) (iblk m c 2 t) (iblk m c 3 t) (iblk m c 4 t) (ix1 r)
      = Ideal.exp (sc m c (node t.val r)) := by
  rw [pay4_apply]
  simp only [blk_rows m c t, blk_w m c t, blk_bias m c t, blk_outw m c t]
  rfl

/-- The running denominator after a point. -/
theorem den_block (t : Fin cfg0.N) (z : EReal) :
    k0_pay5 (F := Ideal) (iblk m c 1 t) (iblk m c 2 t) (iblk m c 3 t) (iblk m c 4 t) z
      = z + ∑ r : Fin 20000, Ideal.exp (sc m c (node t.val r)) := by
  rw [pay5_apply]
  simp only [exp_block m c t]

/-- The running block after a point, before any division. -/
theorem num_block (t : Fin cfg0.N) (acc : Vec Ideal S64x128 .f32) (g : Fin 64) (d : Fin 128) :
    k0_pay1 (F := Ideal) (iblk m c 1 t)
        (k0_pay6 (F := Ideal) (iblk m c 1 t) (iblk m c 2 t) (iblk m c 3 t) (iblk m c 4 t) (iblk m c 0 t)) acc (ix2 g d)
      = acc (ix2 g d) + ∑ r : Fin 20000, term m c g d (node t.val r) := by
  rw [pay1_apply]
  simp only [pay6_apply, exp_block m c t, blk_rows m c t, blk_ids m c t]
  rfl

/-! ## The points in order -/

/-- The sum of `f` over the rows of the first `n` blocks. -/
def upTo (f : Fin 100000 → EReal) (n : ℕ) : EReal := ∑ t ∈ Finset.range n, ∑ r : Fin 20000, f (node t r)

/-- One block more. -/
theorem upTo_succ (f : Fin 100000 → EReal) (n : ℕ) : upTo f (n + 1) = upTo f n + ∑ r : Fin 20000, f (node n r) :=
  Finset.sum_range_succ _ _

/-- The five blocks are all the rows. -/
theorem upTo_five (f : Fin 100000 → EReal) : upTo f 5 = ∑ i : Fin 100000, f i := by
  unfold upTo
  rw [Finset.sum_range, ← Fintype.sum_prod_type']
  refine Fintype.sum_equiv ((finProdFinEquiv (m := 5) (n := 20000)).trans (finCongr (by norm_num))) _ _ fun p => ?_
  refine congrArg f (Fin.ext ?_)
  have h := p.1.isLt
  show 20000 * (p.1.val % 5) + p.2.val = p.2.val + 20000 * p.1.val
  rw [Nat.mod_eq_of_lt h]
  omega

/-- Before the last point: the block and the scratch hold the sums over the blocks so far. -/
theorem before_last : ∀ (n : ℕ) (h : n < cfg0.N), n < 4 →
    (∀ (g : Fin 64) (d : Fin 128), (outsAt0 m c n h).1 (ix2 g d) = upTo (term m c g d) (n + 1))
      ∧ (outsAt0 m c n h).2 at0 = upTo (fun i => Ideal.exp (sc m c i)) (n + 1)
  | 0, h, _ => by
    have e := outsAt0_A m c ⟨0, h⟩ rfl (by dsimp only; omega)
    change outsAt0 m c 0 h = _ at e
    rw [e]
    refine ⟨fun g d => ?_, ?_⟩
    · dsimp only
      rw [out_A, num_block, pay3_apply, upTo_succ]
      simp only [upTo, Finset.range_zero, Finset.sum_empty]
    · dsimp only
      rw [scr_A]
      show k0_pay5 (F := Ideal) _ _ _ _ _ = _
      rw [den_block, upTo_succ]
      simp only [upTo, Finset.range_zero, Finset.sum_empty]
      exact congrArg (· + _) Ideal.ofBits_zero_f32
  | n + 1, h, h4 => by
    have hn : n < cfg0.N := Nat.lt_of_succ_lt h
    obtain ⟨i1, i2⟩ := before_last n hn (by omega)
    have e := outsAt0_B m c ⟨n + 1, h⟩ (by dsimp only; omega) (by dsimp only; omega)
    change outsAt0 m c (n + 1) h = _ at e
    rw [e]
    refine ⟨fun g d => ?_, ?_⟩
    · dsimp only
      rw [out_B, num_block, upTo_succ]
      exact congrArg (· + _) (i1 g d)
    · dsimp only
      rw [scr_B]
      show k0_pay5 (F := Ideal) _ _ _ _ _ = _
      rw [den_block, upTo_succ]
      exact congrArg (· + _) i2

/-- After the last point: the sums over all the rows, the one divided by the other. -/
theorem last (h : 4 < cfg0.N) (g : Fin 64) (d : Fin 128) :
    (outsAt0 m c 4 h).1 (ix2 g d)
      = Ideal.div (∑ i : Fin 100000, term m c g d i) (∑ i : Fin 100000, Ideal.exp (sc m c i)) := by
  obtain ⟨i1, i2⟩ := before_last m c 3 (Nat.lt_of_succ_lt h) (by decide)
  have e := outsAt0_C m c ⟨4, h⟩ (by dsimp only; decide) rfl
  change outsAt0 m c 4 h = _ at e
  rw [e]
  dsimp only
  rw [out_C, pay2_apply, num_block, den_block, ← upTo_five, ← upTo_five, upTo_succ _ 4, upTo_succ _ 4]
  exact congrArg₂ (fun a b => Ideal.div (a + _) (b + _)) (i1 g d) i2

/-- The result array of the kernel, element by element. -/
theorem result_apply (g : Fin 64) (d : Fin 128) :
    (G5 m c : Vec Ideal S64x128 .f32) (ix2 g d)
      = Ideal.div (∑ i : Fin 100000, term m c g d i) (∑ i : Fin 100000, Ideal.exp (sc m c i)) := by
  rw [G5_last, ← last m c (lt_of_lt_of_eq (by decide) N_0.symm), outsAt0_sweep]

end Cert.KernelIdeal.Pooling

end
-- ==== Proof.Scatter.lean ====
/-
  The reference's segment sum: where an update lands, and the sum read at an index.
-/
module

public import proofs.«01_k».proof.Proof.Gen.ReferenceIdeal.Read
public import Idealize.ShloMosaic.Lib.Pointwise

@[expose] public section

set_option maxRecDepth 16384

noncomputable section

namespace Cert.ReferenceIdeal.Pooling

open Cert.ReferenceIdeal Cert.ReferenceIdeal.Gen Idealize.ShloMosaic

/-- The printed dimension numbers of the segment sum. -/
abbrev sd : ScatterDims S64x128 S100000x1 S100000x128 := scatter_S64x128_S100000x1_S100000x128_1_0_0_1

/-- An update has no offset along the segments. -/
theorem window_zero (i : Fin 100000) (d : Fin 128) : sd.window (ix2 i d) 0 = 0 := by
  unfold ScatterDims.window
  rw [dif_neg (show ¬(0 : Fin 2) ∈ sd.sKept by decide)]

/-- An update keeps its column. -/
theorem window_one (i : Fin 100000) (d : Fin 128) : sd.window (ix2 i d) 1 = d.val := by
  unfold ScatterDims.window
  rw [dif_pos (show (1 : Fin 2) ∈ sd.sKept by decide)]
  rfl

/-- No column is looked up. -/
theorem start_one (i : Fin 100000) (d : Fin 128) (idx : IVec S100000x1 32) : sd.start (ix2 i d) idx 1 = 0 := by
  unfold ScatterDims.start
  rw [dif_neg (show ¬(1 : Fin 2) ∈ sd.scatterDimsToOperandDims by decide)]

/-- Row `i`'s segment number is the row its update starts at. -/
theorem start_zero (i : Fin 100000) (d : Fin 128) (idx : IVec S100000x1 32) :
    sd.start (ix2 i d) idx 0 = (idx (ix2 i 0)).toInt := by
  unfold ScatterDims.start
  rw [dif_pos (show (0 : Fin 2) ∈ sd.scatterDimsToOperandDims by decide)]
  congr 2
  funext a
  apply Fin.ext
  match a with
  | ⟨0, _⟩ => rfl
  | ⟨1, _⟩ => rfl

/-- Element `(i, d)` of the updates lands on row `g`, column `d'`, exactly when row `i`'s segment number, read as a
    signed integer, is `g` and the columns agree. A segment number outside the rows lands nowhere. -/
theorem lands (i : Fin 100000) (d : Fin 128) (idx : IVec S100000x1 32) (g : Fin 64) (d' : Fin 128) :
    sd.resultIdx? (ix2 i d) idx = some (ix2 g d') ↔ (idx (ix2 i 0)).toInt = (g.val : Int) ∧ d = d' := by
  have hg := g.isLt
  have hd := d.isLt
  unfold ScatterDims.resultIdx?
  constructor
  · intro h
    split at h
    · next hb =>
      have e := Option.some.inj h
      have e0 := congrArg Fin.val (congrFun e 0)
      have e1 := congrArg Fin.val (congrFun e 1)
      have b0 := hb 0
      change (sd.start (ix2 i d) idx 0 + (sd.window (ix2 i d) 0 : Int)).toNat = g.val at e0
      change (sd.start (ix2 i d) idx 1 + (sd.window (ix2 i d) 1 : Int)).toNat = d'.val at e1
      rw [start_zero, window_zero] at e0 b0
      rw [start_one, window_one] at e1
      exact ⟨by omega, Fin.ext (by omega)⟩
    · cases h
  · rintro ⟨h, rfl⟩
    have hb : ∀ a : Fin 2, 0 ≤ sd.start (ix2 i d) idx a + (sd.window (ix2 i d) a : Int)
        ∧ sd.start (ix2 i d) idx a + (sd.window (ix2 i d) a : Int) < (S64x128.size a : Int) := by
      intro a
      match a with
      | ⟨0, _⟩ =>
        change 0 ≤ sd.start (ix2 i d) idx 0 + (sd.window (ix2 i d) 0 : Int)
          ∧ sd.start (ix2 i d) idx 0 + (sd.window (ix2 i d) 0 : Int) < ((64 : Nat) : Int)
        rw [start_zero, window_zero]; omega
      | ⟨1, _⟩ =>
        change 0 ≤ sd.start (ix2 i d) idx 1 + (sd.window (ix2 i d) 1 : Int)
          ∧ sd.start (ix2 i d) idx 1 + (sd.window (ix2 i d) 1 : Int) < ((128 : Nat) : Int)
        rw [start_one, window_one]; omega
    rw [dif_pos hb]
    refine congrArg some (funext fun a => Fin.ext ?_)
    match a with
    | ⟨0, _⟩ =>
      change (sd.start (ix2 i d) idx 0 + (sd.window (ix2 i d) 0 : Int)).toNat = g.val
      rw [start_zero, window_zero]; omega
    | ⟨1, _⟩ =>
      change (sd.start (ix2 i d) idx 1 + (sd.window (ix2 i d) 1 : Int)).toNat = d.val
      rw [start_one, window_one]; omega

/-- The segment sum at row `g`, column `d`: what was there, plus the updates' column `d` over the rows of segment `g`. -/
theorem scatterAdd_apply (x : FVec Ideal S64x128 .f32) (idx : IVec S100000x1 32) (u : FVec Ideal S100000x128 .f32)
    (g : Fin 64) (d : Fin 128) :
    Host.scatterAdd (F := Ideal) sd x idx u (ix2 g d)
      = x (ix2 g d) + ∑ i : Fin 100000, if (idx (ix2 i 0)).toInt = (g.val : Int) then u (ix2 i d) else 0 := by
  rw [show Host.scatterAdd (F := Ideal) sd x idx u = Ideal.hostScatterAdd sd x idx u from rfl]
  unfold Ideal.hostScatterAdd
  refine congrArg (x (ix2 g d) + ·) ?_
  rw [← Finset.sum_filter]
  symm
  refine Finset.sum_bij (fun i _ => ix2 i d) ?_ ?_ ?_ ?_
  · intro i hi
    exact Finset.mem_filter.mpr ⟨Finset.mem_univ _, (lands i d idx g d).mpr ⟨(Finset.mem_filter.mp hi).2, rfl⟩⟩
  · intro i _ i' _ h
    exact congrFun h 0
  · intro j hj
    have h := (Finset.mem_filter.mp hj).2
    rw [eq_ix2 j] at h
    obtain ⟨h0, h1⟩ := (lands (j 0) (j 1) idx g d).mp h
    exact ⟨j 0, Finset.mem_filter.mpr ⟨Finset.mem_univ _, h0⟩, by rw [← h1]; exact (eq_ix2 j).symm⟩
  · intro i _; rfl

end Cert.ReferenceIdeal.Pooling

end
-- ==== Proof.RefRead.lean ====
/-
  The reference's result read at an index, over the extended reals: the sum, over the rows of segment `g`, of the row's
  column `d` times the row's softmax weight.
-/
module

public import proofs.«01_k».proof.Proof.Scatter
public import proofs.«01_k».proof.Proof.Softmax

@[expose] public section

set_option maxRecDepth 16384

noncomputable section

namespace Cert.ReferenceIdeal.Pooling

open Cert.ReferenceIdeal Cert.ReferenceIdeal.Gen Cert.ReferenceIdeal.Read Idealize.ShloMosaic
open Cert.Pooling (score score_real fold_max_real)

variable (x0 : Vec Ideal S100000x128 .f32) (x1 : Vec Ideal S100000 .i32) (x2 : Vec Ideal S128x128 .f32)
  (x3 : Vec Ideal S128 .f32) (x4 : Vec Ideal S128x1 .f32) (x5 : Vec Ideal S1 .f32)

/-- The score of row `i`, without the output bias. -/
def sc (i : Fin 100000) : EReal :=
  score (fun k => x0 (ix2 i k)) (fun k h => x2 (ix2 k h)) (fun h => x3 (ix1 h)) (fun h => x4 (ix2 h 0))

/-- The score of row `i`, with the output bias. -/
theorem scores_apply (i : Fin 100000) :
    val_main_v8 (F := Ideal) x0 x2 x3 x4 x5 (ix2 i 0) = sc x0 x2 x3 x4 i + x5 (ix1 0) := by
  unfold sc score
  pointwise [val_main_v8, val_main_v7, val_main_v6, val_main_v5, val_main_v4, val_main_v3, val_main_v2, val_main_v1,
    val_main_v0]

/-- The word the maximum starts from is minus infinity. -/
theorem neg_inf : Ideal.ofBits .f32 0xFF800000#32 = ⊥ := by simp [Ideal.ofBits, Ideal.ieee]

/-- A maximum over rows of real scores is real. -/
theorem max_real (y : Vec Ideal S100000x1 .f32) (hy : ∀ i : Fin 100000, ∃ r : ℝ, y (ix2 i 0) = (r : EReal)) :
    ∃ r : ℝ, Host.reduce (FloatOps.maximumf (F := Ideal) (φ := .f32)) y (val_main_cst (F := Ideal)) reducesTo_S100000x1_S1_d0 h_S_ (ix1 0)
      = (r : EReal) := by
  have e : Host.reduce (FloatOps.maximumf (F := Ideal) (φ := .f32)) y (val_main_cst (F := Ideal)) reducesTo_S100000x1_S1_d0 h_S_ (ix1 0)
      = Finset.univ.fold max ⊥ fun i : Fin 100000 => y (ix2 i 0) := by
    pointwise [val_main_cst]
    rw [neg_inf]
  rw [e]
  exact fold_max_real _ Finset.univ_nonempty _ hy

/-- The reference's maximum. -/
def top : EReal := val_main_v11 (F := Ideal) x0 x2 x3 x4 x5 (ix1 0)

/-- The maximum with minus infinity once more, as the softmax takes it. -/
theorem top_eq : top x0 x2 x3 x4 x5 = max ⊥ (val_main_v9 (F := Ideal) x0 x2 x3 x4 x5 (ix1 0)) := by
  unfold top
  rw [val_main_v11_apply]
  generalize val_main_v9 (F := Ideal) x0 x2 x3 x4 x5 = y
  pointwise [val_main_v10, val_main_cst_0]
  rw [neg_inf]

/-- The maximum is real where the output layer is. -/
theorem top_real (h4 : ∀ h : Fin 128, ∃ r : ℝ, x4 (ix2 h 0) = (r : EReal)) (h5 : ∃ r : ℝ, x5 (ix1 0) = (r : EReal)) :
    ∃ r : ℝ, top x0 x2 x3 x4 x5 = (r : EReal) := by
  obtain ⟨r, hr⟩ := max_real (val_main_v8 (F := Ideal) x0 x2 x3 x4 x5) fun i => by
    obtain ⟨p, hp⟩ := score_real (fun k => x0 (ix2 i k)) (fun k h => x2 (ix2 k h)) (fun h => x3 (ix1 h))
      (fun h => x4 (ix2 h 0)) h4
    obtain ⟨q, hq⟩ := h5
    refine ⟨p + q, ?_⟩
    rw [scores_apply, hq, EReal.coe_add, ← hp, sc]
  refine ⟨r, ?_⟩
  rw [top_eq, max_eq_right bot_le, val_main_v9, hr]

/-- The exponential of row `i`'s shifted score. -/
theorem exps_apply (i : Fin 100000) :
    val_main_v15 (F := Ideal) x0 x2 x3 x4 x5 (ix2 i 0)
      = Ideal.exp (sc x0 x2 x3 x4 i + x5 (ix1 0) - top x0 x2 x3 x4 x5) := by
  rw [← scores_apply]
  unfold top
  pointwise [val_main_v15, val_main_v14, val_main_v13, val_main_v12]

/-- The sum of the exponentials. -/
theorem total_apply : val_main_v16 (F := Ideal) x0 x2 x3 x4 x5 (ix1 0)
    = ∑ j : Fin 100000, val_main_v15 (F := Ideal) x0 x2 x3 x4 x5 (ix2 j 0) := by
  have e : val_main_cst_1 (F := Ideal) (fun a => a.elim0) = 0 := Ideal.ofBits_zero_f32
  rw [val_main_v16_apply]
  generalize val_main_v15 (F := Ideal) x0 x2 x3 x4 x5 = y
  refine (congrArg (· + _) e).trans ((zero_add _).trans (Finset.sum_congr rfl fun j _ => congrArg y ?_))
  exact eq_ix2 _

/-- Row `i`'s softmax weight. -/
theorem weight_apply (i : Fin 100000) :
    val_main_v19 (F := Ideal) x0 x2 x3 x4 x5 (ix2 i 0)
      = Ideal.div (Ideal.exp (sc x0 x2 x3 x4 i + x5 (ix1 0) - top x0 x2 x3 x4 x5))
          (∑ j : Fin 100000, Ideal.exp (sc x0 x2 x3 x4 j + x5 (ix1 0) - top x0 x2 x3 x4 x5)) := by
  have e : val_main_v19 (F := Ideal) x0 x2 x3 x4 x5 (ix2 i 0)
      = Ideal.div (val_main_v15 (F := Ideal) x0 x2 x3 x4 x5 (ix2 i 0))
          (val_main_v16 (F := Ideal) x0 x2 x3 x4 x5 (ix1 0)) := by
    pointwise [val_main_v19, val_main_v18, val_main_v17]
  rw [e, total_apply, exps_apply]
  simp only [exps_apply]

/-- The reference's result, element by element. -/
theorem result_apply (g : Fin 64) (d : Fin 128) :
    val_main_v24 (F := Ideal) x0 x1 x2 x3 x4 x5 (ix2 g d)
      = ∑ i : Fin 100000, if (x1 (ix1 i)).toInt = (g.val : Int) then
          x0 (ix2 i d) * Ideal.div (Ideal.exp (sc x0 x2 x3 x4 i + x5 (ix1 0) - top x0 x2 x3 x4 x5))
            (∑ j : Fin 100000, Ideal.exp (sc x0 x2 x3 x4 j + x5 (ix1 0) - top x0 x2 x3 x4 x5)) else 0 := by
  have e0 : val_main_v22 (F := Ideal) (ix2 g d) = 0 := by
    pointwise [val_main_v22, val_main_cst_2]
  have e1 : ∀ i : Fin 100000, val_main_v23 (F := Ideal) x1 (ix2 i 0) = x1 (ix1 i) := fun i => by
    pointwise [val_main_v23]
  have e2 : ∀ i : Fin 100000, val_main_v21 (F := Ideal) x0 x2 x3 x4 x5 (ix2 i d)
      = x0 (ix2 i d) * val_main_v19 (F := Ideal) x0 x2 x3 x4 x5 (ix2 i 0) := fun i => by
    pointwise [val_main_v21, val_main_v20]
  unfold val_main_v24
  rw [scatterAdd_apply, e0, zero_add]
  refine Finset.sum_congr rfl fun i _ => ?_
  rw [e1, e2, weight_apply]

end Cert.ReferenceIdeal.Pooling

end
-- ==== Proof.Pre.lean ====
/-
  What the precondition says of the arguments, over the extended reals: the output layer's weights and its bias are real
  numbers. And a segment number read as a word and as an integer.
-/
module

public import proofs.«01_k».proof.Proof.Gen.Pre_output_layer_finite
public import Idealize.ShloMosaic.Lib.Pointwise

@[expose] public section

set_option maxRecDepth 16384

noncomputable section

namespace Cert.Pre_output_layer_finite.Pooling

open Cert.Pre_output_layer_finite Cert.Pre_output_layer_finite.Gen Idealize.ShloMosaic

/-- An element whose absolute value is below infinity is a real number. -/
theorem real_of_lt_top {x : EReal} (h : max x (-x) < ⊤) : ∃ r : ℝ, x = (r : EReal) := by
  induction x with
  | bot => simp at h
  | top => simp at h
  | coe r => exact ⟨r, rfl⟩

/-- A conjunction of two tests is one only where both hold. -/
theorem both {p q : Prop} [Decidable p] [Decidable q]
    (h : IntOp.andi (BitVec.ofBool (decide p)) (BitVec.ofBool (decide q)) = 1#1) : p ∧ q := by
  by_cases hp : p <;> by_cases hq : q <;> simp [hp, hq, IntOp.andi] at h ⊢

/-- Where the precondition is all ones, the absolute values it tests are below infinity. -/
theorem fn_apply (x0 : Vec Ideal S100000x128 .f32) (x1 : Vec Ideal S100000 .i32) (x2 : Vec Ideal S128x128 .f32)
    (x3 : Vec Ideal S128 .f32) (x4 : Vec Ideal S128x1 .f32) (x5 : Vec Ideal S1 .f32)
    (h : Cert.Pre_output_layer_finite.fn (F := Ideal) x0 x1 x2 x3 x4 x5 = fun _ => 1#1) (k : Fin 128) :
    max (x4 (ix2 k 0)) (-(x4 (ix2 k 0))) < ⊤ ∧ max (x5 (ix1 0)) (-(x5 (ix1 0))) < ⊤ := by
  have e := congrFun h (ix2 k 0)
  pointwise [Cert.Pre_output_layer_finite.fn] at e
  have t : Ideal.ofBits .f32 0x7F800000#32 = ⊤ := by simp [Ideal.ofBits, Ideal.ieee]
  have b := both e
  rw [t] at b
  exact b

/-- The output layer's weights are real. -/
theorem weights_real (x0 : Vec Ideal S100000x128 .f32) (x1 : Vec Ideal S100000 .i32) (x2 : Vec Ideal S128x128 .f32)
    (x3 : Vec Ideal S128 .f32) (x4 : Vec Ideal S128x1 .f32) (x5 : Vec Ideal S1 .f32)
    (h : Cert.Pre_output_layer_finite.fn (F := Ideal) x0 x1 x2 x3 x4 x5 = fun _ => 1#1) (k : Fin 128) :
    ∃ r : ℝ, x4 (ix2 k 0) = (r : EReal) :=
  real_of_lt_top (fn_apply x0 x1 x2 x3 x4 x5 h k).1

/-- The output bias is real. -/
theorem bias_real (x0 : Vec Ideal S100000x128 .f32) (x1 : Vec Ideal S100000 .i32) (x2 : Vec Ideal S128x128 .f32)
    (x3 : Vec Ideal S128 .f32) (x4 : Vec Ideal S128x1 .f32) (x5 : Vec Ideal S1 .f32)
    (h : Cert.Pre_output_layer_finite.fn (F := Ideal) x0 x1 x2 x3 x4 x5 = fun _ => 1#1) :
    ∃ r : ℝ, x5 (ix1 0) = (r : EReal) :=
  real_of_lt_top (fn_apply x0 x1 x2 x3 x4 x5 h 0).2

/-- For a segment `g` below 64: a word is `g` exactly when it reads `g` as a signed integer. -/
theorem word_eq_iff (b : BitVec 32) (g : Fin 64) : b = BitVec.ofNat 32 g.val ↔ b.toInt = (g.val : Int) := by
  have e : (BitVec.ofNat 32 g.val).toInt = (g.val : Int) := by
    have h := g.isLt
    rw [BitVec.toInt_ofNat']
    exact Int.bmod_eq_of_le (by omega) (by omega)
  rw [← e]
  exact ⟨fun h => congrArg _ h, BitVec.eq_of_toInt_eq⟩

end Cert.Pre_output_layer_finite.Pooling

end
-- ==== Proof.lean ====
/-
  The proof of the certificate's claim. The frame claims are the programs' generated frames and the reference's run. The
  value claim puts the kernel's result array (Proof/Fold.lean) beside the reference's (Proof/RefRead.lean), element by
  element; that the two formulas agree where the output layer is real is Proof/Softmax.lean.
-/
module

public import proofs.«01_k».proof.Defs
public import proofs.«01_k».proof.Proof.Gen.Kernel.Frame
public import proofs.«01_k».proof.Proof.Gen.KernelIdeal.Value
public import proofs.«01_k».proof.Proof.Gen.Pre_output_layer_finite
public import proofs.«01_k».proof.Proof.Gen.ReferenceIdeal.Run
public import proofs.«01_k».proof.Proof.Gen.ReferenceIdeal.Read
public import proofs.«01_k».proof.Proof.Fold
public import proofs.«01_k».proof.Proof.RefRead
public import proofs.«01_k».proof.Proof.Pre
public import Idealize.ShloMosaic.Adequacy
public import Idealize.ShloMosaic.Init
public import Idealize.ShloMosaic.Lib.Quiescent

@[expose] public section

noncomputable section

namespace Cert.Proof

open Idealize.ShloMosaic Idealize.SL.Sem

/-- The kernel's result array is the reference's, where the output layer's weights and bias are real. -/
theorem result_eq (m : (ℓ : Loc Cert.KernelIdeal.nD Cert.KernelIdeal.τ Cert.KernelIdeal.sig) → Buf (Elt Ideal) ℓ)
    (c : Dev Cert.KernelIdeal.nD)
    (h : Cert.Pre_output_layer_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) = fun _ => 1#1) :
    Cert.ReferenceIdeal.Read.val_main_v24 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      = Cert.KernelIdeal.Value.G5 (F := Ideal) m c := by
  have h4 := Cert.Pre_output_layer_finite.Pooling.weights_real _ _ _ _ _ _ h
  have h5 := Cert.Pre_output_layer_finite.Pooling.bias_real _ _ _ _ _ _ h
  funext i
  obtain ⟨g, d, rfl⟩ : ∃ (g : Fin 64) (d : Fin 128), i = ix2 g d := ⟨i 0, i 1, eq_ix2 i⟩
  refine Eq.trans (Cert.ReferenceIdeal.Pooling.result_apply _ _ _ _ _ _ g d) ?_
  refine Eq.trans ?_ (Cert.KernelIdeal.Pooling.result_apply m c g d).symm
  exact (Cert.Pooling.pooled_eq (Cert.KernelIdeal.Pooling.sc m c) (fun i => Cert.Pooling.score_real _ _ _ _ h4) _ _ h5
    (Cert.ReferenceIdeal.Pooling.top_real _ _ _ _ _ h4 h5)
    (fun i => Cert.KernelIdeal.Pooling.seg m c i = BitVec.ofNat 32 g.val)
    (fun i => (Cert.KernelIdeal.Pooling.seg m c i).toInt = (g.val : Int))
    (fun i => Cert.Pre_output_layer_finite.Pooling.word_eq_iff _ g) (fun i => Cert.KernelIdeal.Pooling.row m c i d)).symm

/-- The reference runs and leaves its arguments; it has no semaphore. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition, which is not needed. -/
theorem quiescent_ReferenceIdeal_pre : quiescent_ReferenceIdeal_pre_output_layer_finite := fun m ρ _ =>
  quiescent_ReferenceIdeal m ρ trivial

/-- The kernel and the reference leave equal results over the extended reals. -/
theorem algebraic : algebraic_KernelIdeal_ReferenceIdeal_pre_output_layer_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact (Cert.ReferenceIdeal.Read.val_main_v24_eq _ _ _ _ _ _).trans (result_eq m c (hpre c))

/-- Every claim of the certificate. -/
theorem claim : Cert.Claim := ⟨Cert.Kernel.Gen.facts, Cert.KernelIdeal.Gen.facts, Cert.ReferenceIdeal.Gen.facts, Cert.Pre_output_layer_finite.Gen.facts,
  fun m ρ _ => Cert.Kernel.Gen.frame m ρ, fun m ρ _ => Cert.KernelIdeal.Gen.frame m ρ, fun m ρ _ => Cert.KernelIdeal.Gen.frame m ρ, quiescent_ReferenceIdeal, quiescent_ReferenceIdeal_pre, (trivial : preserves_Kernel_KernelIdeal), algebraic⟩

end Cert.Proof

end
